-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x16x128 : Shape := ⟨3, ![16384, 16, 128]⟩
abbrev S1152x16 : Shape := ⟨2, ![1152, 16]⟩
abbrev S_ : Shape := ⟨0, ![]⟩

class Facts : Prop where
  bcast_S_S16384x16x128 : S_.BroadcastsInDim S16384x16x128 (![] : Fin 0 → Fin S16384x16x128.rank)
  bcast_S_S1152x16 : S_.BroadcastsInDim S1152x16 (![] : Fin 0 → Fin S1152x16.rank)

variable [Facts]

def fn {F : FTy → Type} [FloatOps F] (main_arg0 : FVec F S16384x16x128 .f32) (main_arg1 : FVec F S16384x16x128 .f32) (main_arg2 : FVec F S16384x16x128 .f32) (main_arg3 : FVec F S1152x16 .f32) : IVec S16384x16x128 1 × IVec S16384x16x128 1 × IVec S16384x16x128 1 × IVec S1152x16 1 :=
  let main_v0 : FVec F S16384x16x128 .f32 := Host.absf main_arg0
  let main_cst : FVec F S_ .f32 := constant S_ .f32 0x7F800000#32
  let main_v1 : FVec F S16384x16x128 .f32 := broadcastInDim S16384x16x128 ![] bcast_S_S16384x16x128 main_cst
  let main_v2 : IVec S16384x16x128 1 := cmpf .olt main_v0 main_v1
  let main_v3 : FVec F S16384x16x128 .f32 := Host.absf main_arg1
  let main_cst_0 : FVec F S_ .f32 := constant S_ .f32 0x7F800000#32
  let main_v4 : FVec F S16384x16x128 .f32 := broadcastInDim S16384x16x128 ![] bcast_S_S16384x16x128 main_cst_0
  let main_v5 : IVec S16384x16x128 1 := cmpf .olt main_v3 main_v4
  let main_v6 : FVec F S16384x16x128 .f32 := Host.absf main_arg2
  let main_cst_1 : FVec F S_ .f32 := constant S_ .f32 0x7F800000#32
  let main_v7 : FVec F S16384x16x128 .f32 := broadcastInDim S16384x16x128 ![] bcast_S_S16384x16x128 main_cst_1
  let main_v8 : IVec S16384x16x128 1 := cmpf .olt main_v6 main_v7
  let main_v9 : FVec F S1152x16 .f32 := Host.absf main_arg3
  let main_cst_2 : FVec F S_ .f32 := constant S_ .f32 0x7F800000#32
  let main_v10 : FVec F S1152x16 .f32 := broadcastInDim S1152x16 ![] bcast_S_S1152x16 main_cst_2
  let main_v11 : IVec S1152x16 1 := cmpf .olt main_v9 main_v10
  (main_v2, main_v5, main_v8, main_v11)
-- ==== Kernel.lean ====
abbrev S16384x16x128 : Shape := ⟨3, ![16384, 16, 128]⟩
abbrev S1152x16 : Shape := ⟨2, ![1152, 16]⟩
abbrev S16x1152 : Shape := ⟨2, ![16, 1152]⟩
abbrev S16x3x3x128 : Shape := ⟨4, ![16, 3, 3, 128]⟩
abbrev S3x3x16x128 : Shape := ⟨4, ![3, 3, 16, 128]⟩
abbrev S_ : Shape := ⟨0, ![]⟩
abbrev S16384x2048 : Shape := ⟨2, ![16384, 2048]⟩
abbrev S512x16x128 : Shape := ⟨3, ![512, 16, 128]⟩
abbrev S512x2048 : Shape := ⟨2, ![512, 2048]⟩
abbrev S1x1x16x128 : Shape := ⟨4, ![1, 1, 16, 128]⟩
abbrev S16x128 : Shape := ⟨2, ![16, 128]⟩
abbrev S1x16x128 : Shape := ⟨3, ![1, 16, 128]⟩
abbrev S512x16 : Shape := ⟨2, ![512, 16]⟩
abbrev S512x16x1 : Shape := ⟨3, ![512, 16, 1]⟩

abbrev nBuf : Space → Nat
  | .hbm => 11
  | .vmem => 9
  | .smem => 0
  | _ => 0

abbrev bufTy : (tb : Table) → Fin (tcTables nBuf tb) → BufTy
  | .hbm, ⟨0, _⟩ => ⟨S16384x16x128, .f32⟩
  | .hbm, ⟨1, _⟩ => ⟨S16384x16x128, .f32⟩
  | .hbm, ⟨2, _⟩ => ⟨S16384x16x128, .f32⟩
  | .hbm, ⟨3, _⟩ => ⟨S1152x16, .f32⟩
  | .hbm, ⟨4, _⟩ => ⟨S16x1152, .f32⟩
  | .hbm, ⟨5, _⟩ => ⟨S16x3x3x128, .f32⟩
  | .hbm, ⟨6, _⟩ => ⟨S3x3x16x128, .f32⟩
  | .hbm, ⟨7, _⟩ => ⟨S_, .f32⟩
  | .hbm, ⟨8, _⟩ => ⟨S3x3x16x128, .f32⟩
  | .hbm, ⟨9, _⟩ => ⟨S3x3x16x128, .f32⟩
  | .hbm, ⟨10, _⟩ => ⟨S16384x2048, .f32⟩
  | .local _ .vmem, ⟨0, _⟩ => ⟨S512x16x128, .f32⟩
  | .local _ .vmem, ⟨1, _⟩ => ⟨S512x16x128, .f32⟩
  | .local _ .vmem, ⟨2, _⟩ => ⟨S512x16x128, .f32⟩
  | .local _ .vmem, ⟨3, _⟩ => ⟨S512x16x128, .f32⟩
  | .local _ .vmem, ⟨4, _⟩ => ⟨S512x16x128, .f32⟩
  | .local _ .vmem, ⟨5, _⟩ => ⟨S512x16x128, .f32⟩
  | .local _ .vmem, ⟨6, _⟩ => ⟨S3x3x16x128, .f32⟩
  | .local _ .vmem, ⟨7, _⟩ => ⟨S512x2048, .f32⟩
  | .local _ .vmem, ⟨8, _⟩ => ⟨S512x2048, .f32⟩
  | _, _ => ⟨S16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x16x128 : Shape := ⟨3, ![16384, 16, 128]⟩
abbrev S1152x16 : Shape := ⟨2, ![1152, 16]⟩
abbrev S16384x16x1x128 : Shape := ⟨4, ![16384, 16, 1, 128]⟩
abbrev S16384x16x3x128 : Shape := ⟨4, ![16384, 16, 3, 128]⟩
abbrev S16384x16x384 : Shape := ⟨3, ![16384, 16, 384]⟩
abbrev S16384x16x1x384 : Shape := ⟨4, ![16384, 16, 1, 384]⟩
abbrev S16x1152 : Shape := ⟨2, ![16, 1152]⟩
abbrev S16x3x384 : Shape := ⟨3, ![16, 3, 384]⟩
abbrev S16x384x3 : Shape := ⟨3, ![16, 384, 3]⟩
abbrev S16x16384x1x3 : Shape := ⟨4, ![16, 16384, 1, 3]⟩
abbrev S16384x16x1x3 : Shape := ⟨4, ![16384, 16, 1, 3]⟩
abbrev S16384x16x3 : Shape := ⟨3, ![16384, 16, 3]⟩
abbrev S_ : Shape := ⟨0, ![]⟩
abbrev S16384x16 : Shape := ⟨2, ![16384, 16]⟩
abbrev S16384x16x1 : Shape := ⟨3, ![16384, 16, 1]⟩
abbrev S16384x16x3x1 : Shape := ⟨4, ![16384, 16, 3, 1]⟩
abbrev S16384x2048 : Shape := ⟨2, ![16384, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x16x128, .f32⟩
  | .hbm, ⟨1, _⟩ => ⟨S16384x16x128, .f32⟩
  | .hbm, ⟨2, _⟩ => ⟨S16384x16x128, .f32⟩
  | .hbm, ⟨3, _⟩ => ⟨S1152x16, .f32⟩
  | .hbm, ⟨4, _⟩ => ⟨S16384x16x1x128, .f32⟩
  | .hbm, ⟨5, _⟩ => ⟨S16384x16x1x128, .f32⟩
  | .hbm, ⟨6, _⟩ => ⟨S16384x16x1x128, .f32⟩
  | .hbm, ⟨7, _⟩ => ⟨S16384x16x3x128, .f32⟩
  | .hbm, ⟨8, _⟩ => ⟨S16384x16x384, .f32⟩
  | .hbm, ⟨9, _⟩ => ⟨S16384x16x1x384, .f32⟩
  | .hbm, ⟨10, _⟩ => ⟨S16x1152, .f32⟩
  | .hbm, ⟨11, _⟩ => ⟨S16x3x384, .f32⟩
  | .hbm, ⟨12, _⟩ => ⟨S16x384x3, .f32⟩
  | .hbm, ⟨13, _⟩ => ⟨S16x16384x1x3, .f32⟩
  | .hbm, ⟨14, _⟩ => ⟨S16384x16x1x3, .f32⟩
  | .hbm, ⟨15, _⟩ => ⟨S16384x16x3, .f32⟩
  | .hbm, ⟨16, _⟩ => ⟨S_, .f32⟩
  | .hbm, ⟨17, _⟩ => ⟨S16384x16x3, .f32⟩
  | .hbm, ⟨18, _⟩ => ⟨S16384x16x3, .f32⟩
  | .hbm, ⟨19, _⟩ => ⟨S_, .f32⟩
  | .hbm, ⟨20, _⟩ => ⟨S16384x16, .f32⟩
  | .hbm, ⟨21, _⟩ => ⟨S_, .f32⟩
  | .hbm, ⟨22, _⟩ => ⟨S16384x16, .f32⟩
  | .hbm, ⟨23, _⟩ => ⟨S16384x16, .f32⟩
  | .hbm, ⟨24, _⟩ => ⟨S16384x16x1, .f32⟩
  | .hbm, ⟨25, _⟩ => ⟨S16384x16x3, .f32⟩
  | .hbm, ⟨26, _⟩ => ⟨S16384x16x3, .f32⟩
  | .hbm, ⟨27, _⟩ => ⟨S16384x16x3, .f32⟩
  | .hbm, ⟨28, _⟩ => ⟨S_, .f32⟩
  | .hbm, ⟨29, _⟩ => ⟨S16384x16, .f32⟩
  | .hbm, ⟨30, _⟩ => ⟨S16384x16x1, .f32⟩
  | .hbm, ⟨31, _⟩ => ⟨S16384x16x3, .f32⟩
  | .hbm, ⟨32, _⟩ => ⟨S16384x16x3, .f32⟩
  | .hbm, ⟨33, _⟩ => ⟨S16384x16x3x1, .f32⟩
  | .hbm, ⟨34, _⟩ => ⟨S16384x16x3x128, .f32⟩
  | .hbm, ⟨35, _⟩ => ⟨S16384x16x3x128, .f32⟩
  | .hbm, ⟨36, _⟩ => ⟨S_, .f32⟩
  | .hbm, ⟨37, _⟩ => ⟨S16384x16x128, .f32⟩
  | .hbm, ⟨38, _⟩ => ⟨S16384x2048, .f32⟩
  | _, _ => ⟨S16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.Gate.lean ====
/-
  The gate, as plain mathematics over the extended reals, with no program in sight.

  One token and one head see three branches `x 0`, `x 1`, `x 2` of 128 numbers each, and three gates, each with a weight for
  every entry of every branch. A gate's score is the weighted sum of all 384 entries times one constant; the three scores are
  turned into proportions by a softmax; the result is the branches mixed in those proportions.

  Two ways of computing it are written down here and shown equal where every number is finite:
    * FUSED: the constant multiplied into the weights, the three branches summed side by side, the exponentials taken as they
      are, and one reciprocal of their sum multiplied in at the end;
    * PLAIN: one sum over 384 entries, the constant multiplied in afterwards, the largest score subtracted before the
      exponential, and every exponential divided by their sum.
-/
module

public import Idealize.ShloMosaic.PureOps
public import Idealize.ShloMosaic.PureOps.Ideal.Laws

@[expose] public section

noncomputable section

namespace Cert.Gate

open Idealize.ShloMosaic

/-! ## The two ways -/

/-- A gate's score with the constant already in the weights: the three branches' products added entry by entry. -/
def fusedScore (x : Fin 3 → Fin 128 → EReal) (w : Fin 3 → Fin 3 → Fin 128 → EReal) (g : Fin 3) : EReal :=
  ∑ d : Fin 128, (x 0 d * w g 0 d + x 1 d * w g 1 d + x 2 d * w g 2 d)

/-- The mix with unshifted exponentials and one reciprocal at the end. -/
def fusedMix (s a : Fin 3 → EReal) : EReal :=
  (Ideal.exp (s 0) * a 0 + Ideal.exp (s 1) * a 1 + Ideal.exp (s 2) * a 2)
    * Ideal.div 1 (Ideal.exp (s 0) + Ideal.exp (s 1) + Ideal.exp (s 2))

/-- Which branch the entry `k` of the 384 belongs to, -/
abbrev branch (k : Fin 384) : Fin 3 := ⟨k.val / 128, by omega⟩
/-- and where in the branch it stands. -/
abbrev lane (k : Fin 384) : Fin 128 := ⟨k.val % 128, by omega⟩

/-- A gate's score as one sum over the 384 entries, times the constant `r`. -/
def plainScore (x : Fin 3 → Fin 128 → EReal) (w : Fin 3 → Fin 3 → Fin 128 → EReal) (r : EReal) (g : Fin 3) : EReal :=
  (∑ k : Fin 384, x (branch k) (lane k) * w g (branch k) (lane k)) * r

/-- The largest of the three scores, folded from minus infinity. -/
def top (s : Fin 3 → EReal) : EReal := max ⊥ (Finset.fold max ⊥ s Finset.univ)

/-- The mix by the softmax: each exponential of a score less the largest, over their sum. -/
def plainMix (s a : Fin 3 → EReal) : EReal :=
  ∑ g : Fin 3, Ideal.div (Ideal.exp (s g - top s)) (∑ g' : Fin 3, Ideal.exp (s g' - top s)) * a g

/-! ## Finite numbers -/

/-- A sum of real numbers is the same sum taken among the extended reals. -/
theorem coe_sum {n : Nat} (f : Fin n → ℝ) : ((∑ i, f i : ℝ) : EReal) = ∑ i, (f i : EReal) :=
  map_sum (⟨⟨Real.toEReal, EReal.coe_zero⟩, EReal.coe_add⟩ : ℝ →+ EReal) f Finset.univ

/-- A quotient of reals by a nonzero real is the real quotient. -/
theorem div_coe (p q : ℝ) (hq : q ≠ 0) : Ideal.div (p : EReal) (q : EReal) = ((p / q : ℝ) : EReal) := by
  unfold Ideal.div
  rw [if_neg (by exact_mod_cast hq), div_eq_mul_inv, EReal.coe_mul, EReal.coe_inv]

/-- The exponential of a real is the real exponential. -/
theorem exp_coe (p : ℝ) : Ideal.exp (p : EReal) = ((Real.exp p : ℝ) : EReal) := rfl

/-- The largest of three reals is a real. -/
theorem top_coe (s : Fin 3 → ℝ) : ∃ μ : ℝ, top (fun g => (s g : EReal)) = (μ : EReal) := by
  refine ⟨max (s 0) (max (s 1) (s 2)), ?_⟩
  have h : (Finset.univ : Finset (Fin 3)) = {0, 1, 2} := rfl
  have hmax : ∀ p q : ℝ, ((max p q : ℝ) : EReal) = max (p : EReal) (q : EReal) :=
    fun p q => (EReal.coe_strictMono.monotone.map_max (a := p) (b := q))
  unfold top
  rw [h]
  simp [hmax]

/-! ## The two ways agree -/

/-- Over the reals, the sum over the 384 entries is the sum of the branches' entries side by side. -/
theorem sum_entries (f : Fin 3 → Fin 128 → ℝ) :
    ∑ k : Fin 384, f (branch k) (lane k) = ∑ d : Fin 128, (f 0 d + f 1 d + f 2 d) := by
  have h : ∑ k : Fin 384, f (branch k) (lane k) = ∑ p : Fin 3 × Fin 128, f p.1 p.2 :=
    Fintype.sum_equiv (finProdFinEquiv (m := 3) (n := 128)).symm _ _ fun k => rfl
  rw [h, Fintype.sum_prod_type, Finset.sum_comm]
  exact Finset.sum_congr rfl fun d _ => Fin.sum_univ_three _

/-- The fused score of finite numbers is a real: the plain sum, times the constant. -/
theorem fusedScore_coe (x : Fin 3 → Fin 128 → ℝ) (w : Fin 3 → Fin 3 → Fin 128 → ℝ) (r : ℝ) (g : Fin 3) :
    fusedScore (fun k d => (x k d : EReal)) (fun g k d => (w g k d : EReal) * (r : EReal)) g
      = (((∑ k : Fin 384, x (branch k) (lane k) * w g (branch k) (lane k)) * r : ℝ) : EReal) := by
  rw [sum_entries fun k d => x k d * w g k d, Finset.sum_mul, coe_sum]
  refine Finset.sum_congr rfl fun d _ => ?_
  simp only [← EReal.coe_mul, ← EReal.coe_add]
  exact congrArg _ (by ring)

/-- The plain score of finite numbers is that same real. -/
theorem plainScore_coe (x : Fin 3 → Fin 128 → ℝ) (w : Fin 3 → Fin 3 → Fin 128 → ℝ) (r : ℝ) (g : Fin 3) :
    plainScore (fun k d => (x k d : EReal)) (fun g k d => (w g k d : EReal)) (r : EReal) g
      = (((∑ k : Fin 384, x (branch k) (lane k) * w g (branch k) (lane k)) * r : ℝ) : EReal) := by
  unfold plainScore
  simp only [← EReal.coe_mul, ← coe_sum]

/-- For real scores and entries the two mixes agree: the shift by the largest score cancels between an exponential and the
    sum of them, and dividing every term by a positive number is multiplying the whole by its reciprocal. -/
theorem mix_coe (s a : Fin 3 → ℝ) :
    fusedMix (fun g => (s g : EReal)) (fun g => (a g : EReal)) = plainMix (fun g => (s g : EReal)) (fun g => (a g : EReal)) := by
  obtain ⟨μ, hμ⟩ := top_coe s
  have hE : Real.exp (s 0) + Real.exp (s 1) + Real.exp (s 2) ≠ 0 := by positivity
  have hS : Real.exp (s 0 - μ) + Real.exp (s 1 - μ) + Real.exp (s 2 - μ) ≠ 0 := by positivity
  unfold fusedMix plainMix
  rw [hμ]
  simp only [Fin.sum_univ_three, ← EReal.coe_sub, exp_coe, ← EReal.coe_add, ← EReal.coe_mul, ← EReal.coe_one,
    div_coe _ _ hE, div_coe _ _ hS]
  congr 1
  simp only [Real.exp_sub] at hS ⊢
  have hm : Real.exp μ ≠ 0 := (Real.exp_pos μ).ne'
  field_simp

/-- An array of finite numbers: every entry is a real. -/
def Finite {ι : Type} (f : ι → EReal) : Prop := ∀ i, ∃ p : ℝ, f i = (p : EReal)

/-- One result entry: where the branches, the weights and the constant are finite, the fused way gives the plain way's value. -/
theorem fused_eq_plain (x : Fin 3 → Fin 128 → EReal) (w : Fin 3 → Fin 3 → Fin 128 → EReal) (r : EReal) (d : Fin 128)
    (hx : ∀ k, Finite (x k)) (hw : ∀ g k, Finite (w g k)) (hr : ∃ p : ℝ, r = (p : EReal)) :
    fusedMix (fusedScore x fun g k d => w g k d * r) (fun k => x k d) = plainMix (plainScore x w r) (fun k => x k d) := by
  choose X hX using hx
  choose W hW using hw
  obtain ⟨R, rfl⟩ := hr
  obtain rfl : x = fun k d => (X k d : EReal) := funext fun k => funext fun d => hX k d
  obtain rfl : w = fun g k d => (W g k d : EReal) := funext fun g => funext fun k => funext fun d => hW g k d
  rw [funext (fusedScore_coe X W R), funext (plainScore_coe X W R)]
  exact mix_coe _ _

end Cert.Gate

end
-- ==== Proof.Arrays.lean ====
/-
  The gate over whole arrays: three branches of 16384 tokens, 16 heads and 128 entries, a weight matrix of 1152 rows and 16
  columns, a result of 16384 rows and 2048 columns. Column `h * 128 + d` of a result row is entry `d` of head `h`; row
  `g * 384 + k * 128 + d` of the matrix holds, for gate `g`, the weight of entry `d` of branch `k`.
-/
module

public import proofs.«01_k».proof.Proof.Gate
public import Idealize.ShloMosaic.Lib.Pointwise

@[expose] public section

noncomputable section

namespace Cert.Gate

open Idealize.ShloMosaic

/-- One branch: a number for every token, head and entry. -/
abbrev Branch : Type := FVec Ideal ⟨3, ![16384, 16, 128]⟩ .f32
/-- The weight matrix. -/
abbrev Matrix : Type := FVec Ideal ⟨2, ![1152, 16]⟩ .f32
/-- The result. -/
abbrev Result : Type := FVec Ideal ⟨2, ![16384, 2048]⟩ .f32

/-- The constant every score is multiplied by (0.0510310382, the single-precision literal both programs carry). -/
def rescale : EReal := Ideal.ofBits .f32 0x3D5105EC#32

/-- The three branches of one token and one head. -/
def branches (a b e : Branch) (t : Fin 16384) (h : Fin 16) (k : Fin 3) (d : Fin 128) : EReal :=
  (![a, b, e] k : Branch) (ix3 t h d)

/-- The weights of one head. -/
def weights (w : Matrix) (h : Fin 16) (g k : Fin 3) (d : Fin 128) : EReal :=
  w (ix2 ⟨g.val * 384 + k.val * 128 + d.val, by omega⟩ h)

/-- The head a result column belongs to, -/
abbrev headOf (l : Fin 2048) : Fin 16 := ⟨l.val / 128, by omega⟩
/-- and the entry within it. -/
abbrev entryOf (l : Fin 2048) : Fin 128 := ⟨l.val % 128, by omega⟩

/-- The whole result computed the fused way. -/
def fused (a b e : Branch) (w : Matrix) : Result := fun i =>
  fusedMix (fusedScore (branches a b e (i 0) (headOf (i 1))) fun g k d => weights w (headOf (i 1)) g k d * rescale)
    (fun k => branches a b e (i 0) (headOf (i 1)) k (entryOf (i 1)))

/-- The whole result computed the plain way. -/
def plain (a b e : Branch) (w : Matrix) : Result := fun i =>
  plainMix (plainScore (branches a b e (i 0) (headOf (i 1))) (weights w (headOf (i 1))) rescale)
    (fun k => branches a b e (i 0) (headOf (i 1)) k (entryOf (i 1)))

/-- The constant is a real number. -/
theorem rescale_coe : ∃ p : ℝ, rescale = (p : EReal) := by
  unfold rescale Ideal.ofBits Ideal.ieee
  dsimp only
  rw [if_neg (by decide), if_neg (by decide)]
  exact ⟨_, rfl⟩

/-- On finite arguments the two ways give the same array. -/
theorem fused_eq (a b e : Branch) (w : Matrix) (ha : Finite a) (hb : Finite b) (he : Finite e) (hw : Finite w) :
    fused a b e w = plain a b e w := by
  funext i
  refine fused_eq_plain _ _ _ _ (fun k d => ?_) (fun g k d => hw _) rescale_coe
  match k with
  | 0 => exact ha _
  | 1 => exact hb _
  | 2 => exact he _

end Cert.Gate

end
-- ==== Proof.Finiteness.lean ====
/-
  What the precondition says: where it holds, every entry of the four arguments is a real number.
-/
module

public import proofs.«01_k».proof.Proof.Arrays
public import proofs.«01_k».proof.Pre_finite

@[expose] public section

noncomputable section

namespace Cert.Gate

open Idealize.ShloMosaic

/-- The pattern of plus infinity is plus infinity. -/
theorem plus_infinity : Ideal.ofBits .f32 0x7F800000#32 = ⊤ := by simp [Ideal.ofBits, Ideal.ieee]

/-- An extended real whose absolute value is below plus infinity is a real. -/
theorem real_of_abs_lt (v : EReal) (h : Ideal.cmp .olt (max v (-v)) ⊤ = 1#1) : ∃ p : ℝ, v = (p : EReal) := by
  induction v with
  | bot => simp [Ideal.cmp] at h
  | top => simp [Ideal.cmp] at h
  | coe p => exact ⟨p, rfl⟩

/-- The precondition's mark of one array is set where an entry's absolute value is below plus infinity; so where it is set
    everywhere the array is finite. -/
theorem finite_of_mark {s : Shape} (x : FVec Ideal s .f32) (top : FVec Ideal s .f32) (htop : ∀ i, top i = ⊤)
    (h : cmpf .olt (Host.absf x) top = fun _ => 1#1) : Finite x := fun i => by
  have hi : Ideal.cmp .olt (max (x i) (-x i)) (top i) = 1#1 := congrFun h i
  rw [htop i] at hi
  exact real_of_abs_lt _ hi

/-- The precondition at four arrays: all four are finite. -/
theorem finite_of_pre [Cert.Pre_finite.Facts] (a b e : Branch) (w : Matrix)
    (h : (Cert.Pre_finite.fn (F := Ideal) a b e w).1 = (fun _ => 1#1)
      ∧ (Cert.Pre_finite.fn (F := Ideal) a b e w).2.1 = (fun _ => 1#1)
      ∧ (Cert.Pre_finite.fn (F := Ideal) a b e w).2.2.1 = (fun _ => 1#1)
      ∧ (Cert.Pre_finite.fn (F := Ideal) a b e w).2.2.2 = (fun _ => 1#1)) :
    Finite a ∧ Finite b ∧ Finite e ∧ Finite w :=
  ⟨finite_of_mark a _ (fun _ => plus_infinity) h.1, finite_of_mark b _ (fun _ => plus_infinity) h.2.1,
    finite_of_mark e _ (fun _ => plus_infinity) h.2.2.1, finite_of_mark w _ (fun _ => plus_infinity) h.2.2.2⟩

end Cert.Gate

end
-- ==== Proof.Block.lean ====
/-
  What one grid point of the kernel computes, and what the weights it is handed are.

  The body reads three blocks of 512 tokens, one of each branch, and the whole weight array; its result block is the gate
  computed the fused way, token by token and head by head. The weight array is made before the kernel starts: the weight
  matrix, turned over, cut into gates and branches, and multiplied by the constant.
-/
module

public import proofs.«01_k».proof.Proof.Arrays
public import proofs.«01_k».proof.Proof.Gen.KernelIdeal.Value
public import Idealize.ShloMosaic.Lib.StableHlo.Run

@[expose] public section

set_option maxRecDepth 16384

noncomputable section

namespace Cert.KernelIdeal.Block

open Cert.KernelIdeal Cert.KernelIdeal.Gen Cert.Gate
open Idealize.ShloMosaic Idealize.ShloMosaic.TcCoe Idealize.SL.Sem

/-! ## The body -/

/-- A store at the origin. -/
theorem origin : (![0, 0] : Fin 2 → Nat) = fun _ => 0 := funext fun a => by fin_cases a <;> rfl

/-- The branches of one token and one head, read from the three blocks. -/
def blockBranches (x0 x1 x2 : FVec Ideal S512x16x128 .f32) (p : Fin 512) (h : Fin 16) (k : Fin 3) (d : Fin 128) : EReal :=
  (![x0, x1, x2] k : FVec Ideal S512x16x128 .f32) (ix3 p h d)

/-- The block the body leaves, read at a token and a column: the fused mix of that token's and head's branches under the
    weights as the weight array has them. -/
theorem out_apply (x0 x1 x2 : FVec Ideal S512x16x128 .f32) (x3 : FVec Ideal S3x3x16x128 .f32) (p : Fin 512) (l : Fin 2048) :
    out0_4 (F := Ideal) x0 x1 x2 x3 (ix2 p l)
      = fusedMix (fusedScore (blockBranches x0 x1 x2 p (headOf l)) fun g k d => x3 (ix4 g k (headOf l) d))
          (fun k => blockBranches x0 x1 x2 p (headOf l) k (entryOf l)) := by
  unfold out0_4
  rw [View.canon_unit_zero origin]
  unfold_payloads
  pointwise
  rfl

/-! ## The weights -/

/-- The weight array as the operations before the kernel make it of the weight matrix. -/
def prepared (w : Matrix) : FVec Ideal S3x3x16x128 .f32 :=
  mulf (transpose S3x3x16x128 [1, 2, 0, 3]
      (shapeCast S16x3x3x128 (transpose S16x1152 [1, 0] w transposes_S1152x16_S16x1152_1_0) shapeCasts_S16x1152_S16x3x3x128)
      transposes_S16x3x3x128_S3x3x16x128_1_2_0_3)
    (broadcastInDim S3x3x16x128 ![] bcast_S_S3x3x16x128 (constant S_ .f32 0x3D5105EC#32))

/-- An entry of the weight array is the matrix's weight times the constant. -/
theorem prepared_apply (w : Matrix) (g k : Fin 3) (h : Fin 16) (d : Fin 128) :
    prepared w (ix4 g k h d) = Gate.weights w h g k d * rescale := by
  pointwise [prepared]
  rfl

/-- The kernel finds its weight window's array at the prepared weights. -/
theorem weights_array (m : (ℓ : Loc nD τ sig) → Buf (Elt Ideal) ℓ) (c : Dev nD) :
    V m c (Pipeline.arrRef spec0 3) = prepared (m ((c : Thread nD τ).loc main_arg3)) := by
  show StableHlo.after hostOps0 _ (Proc.devRef .tc main_call0_v4) = _
  after_results
  rfl

end Cert.KernelIdeal.Block

end
-- ==== Proof.KernelValue.lean ====
/-
  What the kernel's result array holds: `Gate.fused` of its four arguments.

  Grid point `t` reads tokens `512 t` to `512 t + 511` of each branch and writes the same rows of the result; the 32 points
  tile the 16384 rows.
-/
module

public import proofs.«01_k».proof.Proof.Block
public import Idealize.ShloMosaic.Lib.Pipeline.Value

@[expose] public section

set_option maxRecDepth 16384

noncomputable section

namespace Cert.KernelIdeal.RefValue

open Cert.KernelIdeal Cert.KernelIdeal.Gen Cert.KernelIdeal.Block Cert.Gate
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Where the windows stand -/

/-- The token that row `p` of point `t`'s block is. -/
abbrev token (t : Fin cfg0.N) (p : Fin 512) : Fin 16384 :=
  ⟨t.val * 512 + p.val, by have h : cfg0.N = 32 := N_0; have := t.isLt; omega⟩

/-- At point `t` the three branch windows stand at token block `t`, -/
theorem branch_index : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N, _)

/-- the weight window at the whole weight array, -/
theorem weight_index : ∀ t : Fin cfg0.N,
    win0_3.index t 0 = 0 ∧ win0_3.index t 1 = 0 ∧ win0_3.index t 2 = 0 ∧ win0_3.index t 3 = 0 :=
  (by decide +kernel : ∀ t : Fin grid0.N, _)

/-- and the result window at row block `t`, a full block. -/
theorem result_index : ∀ t : Fin cfg0.N,
    (win0_4.index t 0 = t.val ∧ win0_4.index t 1 = 0)
    ∧ (win0_4.xsize (grid0.coords t) 0 = 512 ∧ win0_4.xsize (grid0.coords t) 1 = 2048) :=
  (by decide +kernel : ∀ t : Fin grid0.N, _)

/-! ## What the windows read -/

/-- The first branch's block at point `t`, -/
theorem read_com (c : Dev nD) (t : Fin cfg0.N) (p : Fin 512) (h : Fin 16) (d : Fin 128) :
    iblk m c 0 t (ix3 p h d) = m ((c : Thread nD τ).loc main_arg0) (ix3 (token t p) h d) := by
  obtain ⟨e0, e1, e2⟩ := (branch_index t).1
  unfold iblk
  rw [View.read_apply, ← V_main_arg0 m c]
  show V m c main_arg0 _ = V m c main_arg0 _
  refine congrArg _ (funext fun a => Fin.ext ?_)
  match a with
  | ⟨0, _⟩ => show win0_0.index t 0 * 512 + 1 * p.val = t.val * 512 + p.val; rw [e0]; omega
  | ⟨1, _⟩ => show win0_0.index t 1 * 16 + 1 * h.val = h.val; rw [e1]; omega
  | ⟨2, _⟩ => show win0_0.index t 2 * 128 + 1 * d.val = d.val; rw [e2]; omega

/-- the second's, -/
theorem read_slc (c : Dev nD) (t : Fin cfg0.N) (p : Fin 512) (h : Fin 16) (d : Fin 128) :
    iblk m c 1 t (ix3 p h d) = m ((c : Thread nD τ).loc main_arg1) (ix3 (token t p) h d) := by
  obtain ⟨e0, e1, e2⟩ := (branch_index t).2.1
  unfold iblk
  rw [View.read_apply, ← V_main_arg1 m c]
  show V m c main_arg1 _ = V m c main_arg1 _
  refine congrArg _ (funext fun a => Fin.ext ?_)
  match a with
  | ⟨0, _⟩ => show win0_1.index t 0 * 512 + 1 * p.val = t.val * 512 + p.val; rw [e0]; omega
  | ⟨1, _⟩ => show win0_1.index t 1 * 16 + 1 * h.val = h.val; rw [e1]; omega
  | ⟨2, _⟩ => show win0_1.index t 2 * 128 + 1 * d.val = d.val; rw [e2]; omega

/-- and the third's. -/
theorem read_sw (c : Dev nD) (t : Fin cfg0.N) (p : Fin 512) (h : Fin 16) (d : Fin 128) :
    iblk m c 2 t (ix3 p h d) = m ((c : Thread nD τ).loc main_arg2) (ix3 (token t p) h d) := by
  obtain ⟨e0, e1, e2⟩ := (branch_index t).2.2
  unfold iblk
  rw [View.read_apply, ← V_main_arg2 m c]
  show V m c main_arg2 _ = V m c main_arg2 _
  refine congrArg _ (funext fun a => Fin.ext ?_)
  match a with
  | ⟨0, _⟩ => show win0_2.index t 0 * 512 + 1 * p.val = t.val * 512 + p.val; rw [e0]; omega
  | ⟨1, _⟩ => show win0_2.index t 1 * 16 + 1 * h.val = h.val; rw [e1]; omega
  | ⟨2, _⟩ => show win0_2.index t 2 * 128 + 1 * d.val = d.val; rw [e2]; omega

/-- Every point's weight block is the prepared weights. -/
theorem read_weights (c : Dev nD) (t : Fin cfg0.N) (g k : Fin 3) (h : Fin 16) (d : Fin 128) :
    iblk m c 3 t (ix4 g k h d) = Gate.weights (m ((c : Thread nD τ).loc main_arg3)) h g k d * rescale := by
  obtain ⟨e0, e1, e2, e3⟩ := weight_index t
  rw [← prepared_apply, ← weights_array m c]
  unfold iblk
  rw [View.read_apply]
  show V m c (Pipeline.arrRef spec0 3) _ = V m c (Pipeline.arrRef spec0 3) _
  refine congrArg _ (funext fun a => Fin.ext ?_)
  match a with
  | ⟨0, _⟩ => show win0_3.index t 0 * 3 + 1 * g.val = g.val; rw [e0]; omega
  | ⟨1, _⟩ => show win0_3.index t 1 * 3 + 1 * k.val = k.val; rw [e1]; omega
  | ⟨2, _⟩ => show win0_3.index t 2 * 16 + 1 * h.val = h.val; rw [e2]; omega
  | ⟨3, _⟩ => show win0_3.index t 3 * 128 + 1 * d.val = d.val; rw [e3]; omega

/-- The branches of row `p` of point `t`'s blocks are the branches of token `512 t + p`. -/
theorem read_branches (c : Dev nD) (t : Fin cfg0.N) (p : Fin 512) (h : Fin 16) :
    blockBranches (iblk m c 0 t) (iblk m c 1 t) (iblk m c 2 t) p h
      = branches (m ((c : Thread nD τ).loc main_arg0)) (m ((c : Thread nD τ).loc main_arg1))
          (m ((c : Thread nD τ).loc main_arg2)) (token t p) h := by
  funext k d
  match k with
  | 0 => exact read_com m c t p h d
  | 1 => exact read_slc m c t p h d
  | 2 => exact read_sw m c t p h d

/-! ## The result array -/

/-- The fused way's array of device `c`'s arguments as launched. -/
abbrev result (c : Dev nD) : Buf (Elt Ideal) ((c : Thread nD τ).loc main_v0) :=
  fused (m ((c : Thread nD τ).loc main_arg0)) (m ((c : Thread nD τ).loc main_arg1))
    (m ((c : Thread nD τ).loc main_arg2)) (m ((c : Thread nD τ).loc main_arg3))

/-- What point `t` writes back is its block of that array. -/
theorem flushed_eq (c : Dev nD) (t : Fin cfg0.N) :
    (dats m 0 c).flushed 4 t = ((cfg0.win 4).blk t).view.read (Elt Ideal) (result m c) := by
  obtain ⟨⟨e0, e1⟩, -⟩ := result_index t
  rw [Value.flushed4]
  funext j
  obtain ⟨p, l, rfl⟩ : ∃ (p : Fin 512) (l : Fin 2048), j = ix2 p l := ⟨j 0, j 1, eq_ix2 j⟩
  have hj : ((cfg0.win 4).blk t).view.read (Elt Ideal) (result m c) (ix2 p l) = result m c (ix2 (token t p) l) := by
    rw [View.read_apply]
    show result m c _ = result m c _
    refine congrArg _ (funext fun a => Fin.ext ?_)
    match a with
    | ⟨0, _⟩ => show win0_4.index t 0 * 512 + 1 * p.val = t.val * 512 + p.val; rw [e0]; omega
    | ⟨1, _⟩ => show win0_4.index t 1 * 2048 + 1 * l.val = l.val; rw [e1]; omega
  rw [hj]
  show out0_4 (iblk m c 0 t) (iblk m c 1 t) (iblk m c 2 t) (iblk m c 3 t) (ix2 p l) = _
  rw [out_apply, read_branches]
  simp only [read_weights]
  rfl

/-- A row of the result is in point `t`'s block when it is one of the 512 rows from `512 t`. -/
theorem mem_block (t : Fin cfg0.N) (i : S16384x2048.Idx) :
    i ∈ ((cfg0.win 4).blk t).view.set ↔ t.val * 512 ≤ (i 0 : Nat) ∧ (i 0 : Nat) < t.val * 512 + 512 := by
  obtain ⟨⟨e0, e1⟩, s0, s1⟩ := result_index t
  show i ∈ ((View.whole main_v0).slice (win0_4.rect t)).set ↔ _
  rw [View.set_slice_whole, Rect.mem_set_unit]
  have h1 : (i 1 : Nat) < 2048 := (i 1).isLt
  have rows : (win0_4.index t 0 * 512 ≤ (i 0 : Nat)
      ∧ (i 0 : Nat) < win0_4.index t 0 * 512 + win0_4.xsize (grid0.coords t) 0)
      ↔ t.val * 512 ≤ (i 0 : Nat) ∧ (i 0 : Nat) < t.val * 512 + 512 := by rw [e0, s0]
  have columns : win0_4.index t 1 * 2048 ≤ (i 1 : Nat)
      ∧ (i 1 : Nat) < win0_4.index t 1 * 2048 + win0_4.xsize (grid0.coords t) 1 := by rw [e1, s1]; omega
  refine ⟨fun h => rows.mp (h 0), fun h a => ?_⟩
  match a with
  | ⟨0, _⟩ => exact rows.mpr h
  | ⟨1, _⟩ => exact columns

/-- Every row of the result is in some point's block. -/
theorem cover (i : S16384x2048.Idx) :
    ∃ t : Fin cfg0.N, (cfg0.win 4).flush t = true ∧ i ∈ ((cfg0.win 4).blk t).view.set := by
  have h0 : (i 0 : Nat) < 16384 := (i 0).isLt
  have hN : cfg0.N = 32 := N_0
  refine ⟨⟨(i 0 : Nat) / 512, by omega⟩, flush0_4 _, ?_⟩
  rw [mem_block]
  dsimp only
  omega

/-- So the result array ends at the fused way's array. -/
theorem final (c : Dev nD) : (dats m 0 c).arrAt 4 cfg0.N = result m c :=
  (dats m 0 c).arrAt_eq_of_cover 4 (result m c) (fun t _ => flushed_eq m c t) cover

/-- Every run of the kernel ends with the result array at the fused way's array and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.RefValue

end
-- ==== Proof.RefValue.lean ====
/-
  What the reference program computes: its result array is `Gate.plain` of its four arguments.

  The program stacks the three branches along a new axis, flattens the stack to 384 entries per token and head, contracts it
  with the weight matrix, scales, takes the softmax over the three gates and sums the stacked branches in those proportions.
  Its result term is cut here into those four steps, each read at an index.
-/
module

public import proofs.«01_k».proof.Proof.Arrays
public import proofs.«01_k».proof.Proof.Gen.ReferenceIdeal.Run

@[expose] public section

set_option maxRecDepth 16384

noncomputable section

namespace Cert.ReferenceIdeal.RefValue

open Cert.ReferenceIdeal Cert.ReferenceIdeal.Gen Cert.ReferenceIdeal.Value Cert.Gate
open Idealize.ShloMosaic Idealize.ShloMosaic.TcCoe Idealize.SL.Sem

/-! ## The steps -/

/-- The three branches stacked. -/
def stack (a b e : Branch) : FVec Ideal S16384x16x3x128 .f32 :=
  concatenate S16384x16x3x128 2
    [⟨S16384x16x1x128, broadcastInDim S16384x16x1x128 ![0, 1, 3] bcast_S16384x16x128_S16384x16x1x128_0_1_3 a⟩,
     ⟨S16384x16x1x128, broadcastInDim S16384x16x1x128 ![0, 1, 3] bcast_S16384x16x128_S16384x16x1x128_0_1_3 b⟩,
     ⟨S16384x16x1x128, broadcastInDim S16384x16x1x128 ![0, 1, 3] bcast_S16384x16x128_S16384x16x1x128_0_1_3 e⟩]
    concatenates_S16384x16x1x128_S16384x16x1x128_S16384x16x1x128_S16384x16x3x128_d2

/-- The scaled scores of a stack. -/
def score (f : FVec Ideal S16384x16x3x128 .f32) (w : Matrix) : FVec Ideal S16384x16x3 .f32 :=
  mulf (shapeCast S16384x16x3
      (transpose S16384x16x1x3 [1, 0, 2, 3]
        (Host.dotGeneral dot_S16384x16x1x384_S16x384x3_S16x16384x1x3_3_1_02_2_1_0 none
          (broadcastInDim S16384x16x1x384 ![0, 1, 3] bcast_S16384x16x384_S16384x16x1x384_0_1_3
            (shapeCast S16384x16x384 f shapeCasts_S16384x16x3x128_S16384x16x384))
          (transpose S16x384x3 [0, 2, 1]
            (shapeCast S16x3x384 (transpose S16x1152 [1, 0] w transposes_S1152x16_S16x1152_1_0)
              shapeCasts_S16x1152_S16x3x384)
            transposes_S16x3x384_S16x384x3_0_2_1))
        transposes_S16x16384x1x3_S16384x16x1x3_1_0_2_3)
      shapeCasts_S16384x16x1x3_S16384x16x3)
    (broadcastInDim S16384x16x3 ![] bcast_S_S16384x16x3 (constant S_ .f32 0x3D5105EC#32))

/-- The exponentials of the scores less the largest of each three. -/
def shifted (s : FVec Ideal S16384x16x3 .f32) : FVec Ideal S16384x16x3 .f32 :=
  Host.exp (subf s (broadcastInDim S16384x16x3 ![0, 1, 2] bcast_S16384x16x1_S16384x16x3_0_1_2
    (broadcastInDim S16384x16x1 ![0, 1] bcast_S16384x16_S16384x16x1_0_1
      (maximumf (broadcastInDim S16384x16 ![] bcast_S_S16384x16 (constant S_ .f32 0xFF800000#32))
        (Host.reduce FloatOps.maximumf s (constant S_ .f32 0xFF800000#32) reducesTo_S16384x16x3_S16384x16_d2 h_S_)))))

/-- The exponentials `p` divided by their sums, and the stack summed in those proportions. -/
def blend (p : FVec Ideal S16384x16x3 .f32) (f : FVec Ideal S16384x16x3x128 .f32) : Result :=
  shapeCast S16384x2048
    (Host.reduceAdd
      (mulf (broadcastInDim S16384x16x3x128 ![0, 1, 2, 3] bcast_S16384x16x3x1_S16384x16x3x128_0_1_2_3
          (broadcastInDim S16384x16x3x1 ![0, 1, 2] bcast_S16384x16x3_S16384x16x3x1_0_1_2
            (Host.divf p (broadcastInDim S16384x16x3 ![0, 1, 2] bcast_S16384x16x1_S16384x16x3_0_1_2
              (broadcastInDim S16384x16x1 ![0, 1] bcast_S16384x16_S16384x16x1_0_1
                (Host.reduceAdd p (constant S_ .f32 0x00000000#32) reducesTo_S16384x16x3_S16384x16_d2 h_S_)))))) f)
      (constant S_ .f32 0x00000000#32) reducesTo_S16384x16x3x128_S16384x16x128_d2 h_S_)
    shapeCasts_S16384x16x128_S16384x2048

/-! ## Each step at an index -/

/-- The stack at a token, head, branch and entry is that branch's entry. -/
theorem stack_apply (a b e : Branch) (t : Fin 16384) (h : Fin 16) (k : Fin 3) (d : Fin 128) :
    stack a b e (ix4 t h k d) = branches a b e t h k d := by
  pointwise [stack]
  match k with
  | 0 => rfl
  | 1 => rfl
  | 2 => rfl

/-- A score is the sum over the 384 entries, times the constant. -/
theorem score_apply (a b e : Branch) (w : Matrix) (t : Fin 16384) (h : Fin 16) (g : Fin 3) :
    score (stack a b e) w (ix3 t h g) = plainScore (branches a b e t h) (Gate.weights w h) rescale g := by
  pointwise [score]
  unfold plainScore rescale
  refine congrArg (· * _) (Finset.sum_congr rfl fun k _ => ?_)
  rw [stack_apply]
  refine congrArg (_ * w ·) (congrArg (fun r => ix2 r h) (Fin.ext ?_))
  show g.val * 384 + k.val = g.val * 384 + k.val / 128 * 128 + k.val % 128
  omega

/-- The pattern of minus infinity is minus infinity. -/
theorem minus_infinity : Ideal.ofBits .f32 0xFF800000#32 = ⊥ := by simp [Ideal.ofBits, Ideal.ieee]

/-- A shifted exponential, read. -/
theorem shifted_apply (s : FVec Ideal S16384x16x3 .f32) (t : Fin 16384) (h : Fin 16) (g : Fin 3) :
    shifted s (ix3 t h g) = Ideal.exp (s (ix3 t h g) - top fun g' => s (ix3 t h g')) := by
  pointwise [shifted]
  rw [minus_infinity]
  rfl

/-- The four steps together are the plain way. -/
theorem steps_eq (a b e : Branch) (w : Matrix) :
    blend (shifted (score (stack a b e) w)) (stack a b e) = plain a b e w := by
  funext i
  idx_vars i
  pointwise [blend]
  simp only [shifted_apply, stack_apply, score_apply]
  rfl

/-- The reference's result term is the plain way's array of the arguments as launched. -/
theorem result_eq (m : (ℓ : Loc nD τ sig) → Buf (Elt Ideal) ℓ) (c : Dev nD) :
    res_out0 (F := Ideal) m c = plain (m ((c.tc : Thread nD τ).loc main_arg0)) (m ((c.tc : Thread nD τ).loc main_arg1))
      (m ((c.tc : Thread nD τ).loc main_arg2)) (m ((c.tc : Thread nD τ).loc main_arg3)) :=
  (rfl : res_out0 (F := Ideal) m c = blend (shifted (score (stack (m ((c.tc : Thread nD τ).loc main_arg0))
    (m ((c.tc : Thread nD τ).loc main_arg1)) (m ((c.tc : Thread nD τ).loc main_arg2))) (m ((c.tc : Thread nD τ).loc main_arg3))))
    (stack (m ((c.tc : Thread nD τ).loc main_arg0)) (m ((c.tc : Thread nD τ).loc main_arg1))
      (m ((c.tc : Thread nD τ).loc main_arg2)))).trans (steps_eq _ _ _ _)

end Cert.ReferenceIdeal.RefValue

end
-- ==== Proof.lean ====
/-
  The certificate's claims, assembled.

  The kernel mixes three attention branches in proportions it computes by a gate, fused into one pass over each block of
  tokens; the reference computes the same gate as a contraction and a softmax. Proof/Gate.lean has the mathematics of the two
  ways and their equality on finite numbers, Proof/Arrays.lean the two ways over whole arrays, Proof/Block.lean and
  Proof/KernelValue.lean that the kernel's result is the fused way's array, Proof/RefValue.lean that the reference's result is
  the plain way's array, Proof/Finiteness.lean what the precondition says.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Finiteness
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Every run of the kernel as written ends with its arguments unchanged and every semaphore at zero. -/
theorem frame_kernel : Cert.quiescent_Kernel := fun m ρ _ => Cert.Kernel.Gen.frame m ρ

/-- The same of the kernel read over the extended reals, -/
theorem frame_kernel_ideal : Cert.quiescent_KernelIdeal := fun m ρ _ => Cert.KernelIdeal.Gen.frame m ρ

/-- and of it under the precondition. -/
theorem frame_kernel_ideal_finite : Cert.quiescent_KernelIdeal_pre_finite := fun m ρ _ => Cert.KernelIdeal.Gen.frame m ρ

/-- Every run of the reference over the extended reals ends with its arguments unchanged; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition. -/
theorem frame_reference_finite : Cert.quiescent_ReferenceIdeal_pre_finite := fun m ρ _ => frame_reference m ρ trivial

/-- No operation was replaced between the kernel and its reading over the extended reals. -/
theorem preserves : Cert.preserves_Kernel_KernelIdeal := trivial

/-- On finite arguments the kernel and the reference, both read over the extended reals, end with the same result: the
    kernel's array is the fused way's, the reference's the plain way's, and on finite arguments the two ways agree. -/
theorem algebraic : Cert.algebraic_KernelIdeal_ReferenceIdeal_pre_finite := by
  intro m g m' g' hpre hagree
  refine ⟨fun c => Cert.KernelIdeal.RefValue.result m c, Cert.KernelIdeal.RefValue.run m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3⟩ := Cert.Gate.finite_of_pre _ _ _ _ (hpre c)
  obtain ⟨a0, a1, a2, a3⟩ := hagree c
  refine (Cert.ReferenceIdeal.RefValue.result_eq m' c).trans ?_
  rw [a0, a1, a2, a3]
  exact (Cert.Gate.fused_eq _ _ _ _ h0 h1 h2 h3).symm

/-- All the claims. -/
theorem claim : Cert.Claim :=
  ⟨Cert.Kernel.Gen.facts, Cert.KernelIdeal.Gen.facts, Cert.ReferenceIdeal.Gen.facts, Cert.Pre_finite.Gen.facts,
    frame_kernel, frame_kernel_ideal, frame_kernel_ideal_finite, frame_reference, frame_reference_finite, preserves, algebraic⟩

end Cert.Proof

end
